-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_in_range [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_in_range [hPre_batch_in_range : Cert.Pre_batch_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_batch_in_range [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_batch_in_range [hReferenceIdeal : Cert.ReferenceIdeal.Facts] [hPre_batch_in_range : Cert.Pre_batch_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_batch_in_range [hKernelIdeal : Cert.KernelIdeal.Facts] [hReferenceIdeal : Cert.ReferenceIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_batch_in_range : Cert.Pre_batch_in_range.Facts),
    quiescent_Kernel (hKernel := hKernel)
    ∧ quiescent_KernelIdeal (hKernelIdeal := hKernelIdeal)
    ∧ quiescent_KernelIdeal_pre_batch_in_range (hKernelIdeal := hKernelIdeal) (hPre_batch_in_range := hPre_batch_in_range)
    ∧ quiescent_ReferenceIdeal (hReferenceIdeal := hReferenceIdeal)
    ∧ quiescent_ReferenceIdeal_pre_batch_in_range (hReferenceIdeal := hReferenceIdeal) (hPre_batch_in_range := hPre_batch_in_range)
    ∧ preserves_Kernel_KernelIdeal
    ∧ algebraic_KernelIdeal_ReferenceIdeal_pre_batch_in_range (hKernelIdeal := hKernelIdeal) (hReferenceIdeal := hReferenceIdeal) (hPre_batch_in_range := hPre_batch_in_range)
-- ==== Pre_batch_in_range.lean ====
abbrev S50000x3x128 : Shape := ⟨3, ![50000, 3, 128]⟩
abbrev S1x1x128 : Shape := ⟨3, ![1, 1, 128]⟩
abbrev S50000 : Shape := ⟨1, ![50000]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x3x128 .f32) (main_arg1 : FVec F S1x1x128 .f32) (main_arg2 : IVec S50000 32) : IVec S_ 1 :=
  let main_c : IVec S_ 32 := constantI S_ 32 0#32
  let main_v0 : IVec S50000 32 := broadcastInDim S50000 ![] bcast_S_S50000 main_c
  let main_v1 : IVec S50000 1 := cmpi .sge main_arg2 main_v0
  let main_c_0 : IVec S_ 32 := constantI S_ 32 256#32
  let main_v2 : IVec S50000 32 := broadcastInDim S50000 ![] bcast_S_S50000 main_c_0
  let main_v3 : IVec S50000 1 := cmpi .slt main_arg2 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Kernel.lean ====
abbrev S50000x3x128 : Shape := ⟨3, ![50000, 3, 128]⟩
abbrev S1x1x128 : Shape := ⟨3, ![1, 1, 128]⟩
abbrev S50000 : Shape := ⟨1, ![50000]⟩
abbrev S50000x384 : Shape := ⟨2, ![50000, 384]⟩
abbrev S50x1x1000 : Shape := ⟨3, ![50, 1, 1000]⟩
abbrev S1x128 : Shape := ⟨2, ![1, 128]⟩
abbrev S256x128 : Shape := ⟨2, ![256, 128]⟩
abbrev S1x256 : Shape := ⟨2, ![1, 256]⟩
abbrev S1000x384 : Shape := ⟨2, ![1000, 384]⟩
abbrev S1x1x1000 : Shape := ⟨3, ![1, 1, 1000]⟩
abbrev S1000x128 : Shape := ⟨2, ![1000, 128]⟩
abbrev S1000 : Shape := ⟨1, ![1000]⟩
abbrev S256x1000 : Shape := ⟨2, ![256, 1000]⟩
abbrev S1x1000 : Shape := ⟨2, ![1, 1000]⟩
abbrev S256 : Shape := ⟨1, ![256]⟩
abbrev S256x1 : Shape := ⟨2, ![256, 1]⟩
abbrev S1000x1 : Shape := ⟨2, ![1000, 1]⟩
abbrev S1000x256 : Shape := ⟨2, ![1000, 256]⟩
abbrev S128 : Shape := ⟨1, ![128]⟩

abbrev nBuf : Space → Nat
  | .hbm => 10
  | .vmem => 15
  | .smem => 0
  | _ => 0

abbrev bufTy : (tb : Table) → Fin (tcTables nBuf tb) → BufTy
  | .hbm, ⟨0, _⟩ => ⟨S50000x3x128, .f32⟩
  | .hbm, ⟨1, _⟩ => ⟨S1x1x128, .f32⟩
  | .hbm, ⟨2, _⟩ => ⟨S50000, .i32⟩
  | .hbm, ⟨3, _⟩ => ⟨S50000x384, .f32⟩
  | .hbm, ⟨4, _⟩ => ⟨S50x1x1000, .i32⟩
  | .hbm, ⟨5, _⟩ => ⟨S1x128, .f32⟩
  | .hbm, ⟨6, _⟩ => ⟨S256x128, .f32⟩
  | .hbm, ⟨7, _⟩ => ⟨S1x256, .f32⟩
  | .hbm, ⟨8, _⟩ => ⟨S50000x384, .f32⟩
  | .hbm, ⟨9, _⟩ => ⟨S50000x3x128, .f32⟩
  | .local _ .vmem, ⟨0, _⟩ => ⟨S1000x384, .f32⟩
  | .local _ .vmem, ⟨1, _⟩ => ⟨S1000x384, .f32⟩
  | .local _ .vmem, ⟨2, _⟩ => ⟨S1x1x1000, .i32⟩
  | .local _ .vmem, ⟨3, _⟩ => ⟨S1x1x1000, .i32⟩
  | .local _ .vmem, ⟨4, _⟩ => ⟨S256x128, .f32⟩
  | .local _ .vmem, ⟨5, _⟩ => ⟨S1x256, .f32⟩
  | .local _ .vmem, ⟨6, _⟩ => ⟨S1000x384, .f32⟩
  | .local _ .vmem, ⟨7, _⟩ => ⟨S1000x384, .f32⟩
  | .local _ .vmem, ⟨8, _⟩ => ⟨S1x1x1000, .i32⟩
  | .local _ .vmem, ⟨9, _⟩ => ⟨S1x1x1000, .i32⟩
  | .local _ .vmem, ⟨10, _⟩ => ⟨S256x128, .f32⟩
  | .local _ .vmem, ⟨11, _⟩ => ⟨S1x256, .f32⟩
  | .local _ .vmem, ⟨12, _⟩ => ⟨S1x128, .f32⟩
  | .local _ .vmem, ⟨13, _⟩ => ⟨S1000x384, .f32⟩
  | .local _ .vmem, ⟨14, _⟩ => ⟨S1000x384, .f32⟩
  | _, _ => ⟨S50000x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S50000x3x128 : Shape := ⟨3, ![50000, 3, 128]⟩
abbrev S1x1x128 : Shape := ⟨3, ![1, 1, 128]⟩
abbrev S50000 : Shape := ⟨1, ![50000]⟩
abbrev S_ : Shape := ⟨0, ![]⟩
abbrev S50000x128 : Shape := ⟨2, ![50000, 128]⟩
abbrev S50000x1x128 : Shape := ⟨3, ![50000, 1, 128]⟩
abbrev S256x1x128 : Shape := ⟨3, ![256, 1, 128]⟩
abbrev S50000x1 : Shape := ⟨2, ![50000, 1]⟩
abbrev S256 : Shape := ⟨1, ![256]⟩
abbrev S256x1x1 : Shape := ⟨3, ![256, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S50000x3x128, .f32⟩
  | .hbm, ⟨1, _⟩ => ⟨S1x1x128, .f32⟩
  | .hbm, ⟨2, _⟩ => ⟨S50000, .i32⟩
  | .hbm, ⟨3, _⟩ => ⟨S50000x3x128, .f32⟩
  | .hbm, ⟨4, _⟩ => ⟨S_, .f32⟩
  | .hbm, ⟨5, _⟩ => ⟨S50000x128, .f32⟩
  | .hbm, ⟨6, _⟩ => ⟨S50000x1x128, .f32⟩
  | .hbm, ⟨7, _⟩ => ⟨S50000x1x128, .f32⟩
  | .hbm, ⟨8, _⟩ => ⟨S_, .f32⟩
  | .hbm, ⟨9, _⟩ => ⟨S256x1x128, .f32⟩
  | .hbm, ⟨10, _⟩ => ⟨S50000x1, .i32⟩
  | .hbm, ⟨11, _⟩ => ⟨S256x1x128, .f32⟩
  | .hbm, ⟨12, _⟩ => ⟨S_, .f32⟩
  | .hbm, ⟨13, _⟩ => ⟨S50000, .f32⟩
  | .hbm, ⟨14, _⟩ => ⟨S_, .f32⟩
  | .hbm, ⟨15, _⟩ => ⟨S256, .f32⟩
  | .hbm, ⟨16, _⟩ => ⟨S50000x1, .i32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256x1x1, .f32⟩
  | .hbm, ⟨23, _⟩ => ⟨S256x1x128, .f32⟩
  | .hbm, ⟨24, _⟩ => ⟨S256x1x128, .f32⟩
  | .hbm, ⟨25, _⟩ => ⟨S50000x3x128, .f32⟩
  | .hbm, ⟨26, _⟩ => ⟨S50000x3x128, .f32⟩
  | .hbm, ⟨27, _⟩ => ⟨S_, .i32⟩
  | .hbm, ⟨28, _⟩ => ⟨S50000, .i32⟩
  | .hbm, ⟨29, _⟩ => ⟨S50000, .i1⟩
  | .hbm, ⟨30, _⟩ => ⟨S_, .i32⟩
  | .hbm, ⟨31, _⟩ => ⟨S50000, .i32⟩
  | .hbm, ⟨32, _⟩ => ⟨S50000, .i32⟩
  | .hbm, ⟨33, _⟩ => ⟨S50000, .i32⟩
  | .hbm, ⟨34, _⟩ => ⟨S50000x1, .i32⟩
  | .hbm, ⟨35, _⟩ => ⟨S50000x1x128, .f32⟩
  | .hbm, ⟨36, _⟩ => ⟨S_, .f32⟩
  | .hbm, ⟨37, _⟩ => ⟨S50000x1x128, .f32⟩
  | .hbm, ⟨38, _⟩ => ⟨S50000x1x128, .f32⟩
  | .hbm, ⟨39, _⟩ => ⟨S50000x3x128, .f32⟩
  | .hbm, ⟨40, _⟩ => ⟨S50000x3x128, .f32⟩
  | _, _ => ⟨S50000x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Run.lean ====
/-
  The run of the whole idealized program, with its result named: every weakly fair execution of @main ends, the three
  arguments as launched, every semaphore counter at zero, and the result array at the last boundary's contents `W4`.
-/
module

public import proofs.«01_k».proof.Proof.Gen.KernelIdeal.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates; then the result array holds
    what the last host operation writes there (`W4`), the arguments are as launched and every counter is zero. -/
theorem run : θ_run defs (onTc (τ := τ) (main (F := F))) ⟨m, fun _ => 0, ρ⟩ (fun r => (∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v5 (by decide)), (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

end Cert.KernelIdeal.Whole

end
-- ==== Proof.Block.lean ====
/-
  What the two kernel bodies compute from one block, read at an index over the extended reals: the one-hot membership
  matrix, the partial segment sum and count that a block adds, the per-row divisor, and the output block.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen
open Idealize.ShloMosaic Idealize.ShloMosaic.TcCoe Idealize.SL.Sem

/-- Membership as a number: 1 when the word `w` names group `g`, else 0. -/
def hit (w : BitVec 32) (g : ℕ) : EReal := if w = BitVec.ofNat 32 g then 1 else 0

/-- The signed reading of a widened comparison bit is membership. -/
theorem sitofp_eq (w : BitVec 32) (g : ℕ) :
    FloatOps.sitofp (F := Ideal) FTy.f32 (BitVec.setWidth 32 (IntOp.cmpi CmpIPredicate.eq w (BitVec.ofNat 32 g))) = hit w g := by
  show ((BitVec.toInt _ : ℝ) : EReal) = _
  unfold hit
  by_cases h : w = BitVec.ofNat 32 g
  · simp [IntOp.cmpi, h]
  · have hb := beq_eq_false_iff_ne.mpr h
    simp [IntOp.cmpi, h, hb]

/-- The comparison's operands may be exchanged. -/
theorem sitofp_eq' (w : BitVec 32) (g : ℕ) :
    FloatOps.sitofp (F := Ideal) FTy.f32 (BitVec.setWidth 32 (IntOp.cmpi CmpIPredicate.eq (BitVec.ofNat 32 g) w)) = hit w g := by
  rw [← sitofp_eq]
  congr 2
  show BitVec.ofBool _ = BitVec.ofBool _
  rw [Bool.beq_comm]

/-- The length of row `r`'s vector in channel `v`, from a matrix whose three components lie 128 columns apart. -/
def len {n : ℕ} (x : (⟨2, ![n, 384]⟩ : Shape).Idx → EReal) (r : Fin n) (v : Fin 128) : EReal :=
  Ideal.sqrt (x (ix2 r ⟨v, by omega⟩) * x (ix2 r ⟨v, by omega⟩) + x (ix2 r ⟨128 + v, by omega⟩) * x (ix2 r ⟨128 + v, by omega⟩)
    + x (ix2 r ⟨256 + v, by omega⟩) * x (ix2 r ⟨256 + v, by omega⟩))

/-- The one-hot matrix at (group, row). -/
theorem pay1_apply (b : Vec Ideal S1x1x1000 .i32) (g : Fin 256) (r : Fin 1000) :
    k0_pay1 (F := Ideal) b (ix2 g r) = hit (b (ix3 0 0 r)) g := by
  pointwise [k0_pay1]
  exact sitofp_eq' _ _

/-- A block adds, to group `g` and channel `v`, the lengths of its rows that belong to `g`. -/
theorem pay4_apply (x : Vec Ideal S1000x384 .f32) (b : Vec Ideal S1x1x1000 .i32) (s : Vec Ideal S256x128 .f32)
    (g : Fin 256) (v : Fin 128) :
    k0_pay4 (F := Ideal) x b s (ix2 g v) = s (ix2 g v) + ∑ r : Fin 1000, hit (b (ix3 0 0 r)) g * len x r v := by
  pointwise [k0_pay4]
  simp only [pay1_apply]
  rfl

/-- A block adds, to group `g`, the number of its rows that belong to `g`. -/
theorem pay5_apply (b : Vec Ideal S1x1x1000 .i32) (s : Vec Ideal S1x256 .f32) (g : Fin 256) :
    k0_pay5 (F := Ideal) b s (ix2 0 g) = s (ix2 0 g) + ∑ r : Fin 1000, hit (b (ix3 0 0 r)) g := by
  pointwise [k0_pay5]
  simp only [pay1_apply]

/-- The divisor of row `r`: the mean length of the row's group, picked out by membership, plus the small constant. -/
theorem den_apply (b : Vec Ideal S1x1x1000 .i32) (k : Vec Ideal S1x256 .f32) (s : Vec Ideal S256x128 .f32)
    (r : Fin 1000) (v : Fin 128) :
    k1_pay3 (F := Ideal) b k s (ix2 r v)
      = ∑ g : Fin 256, hit (b (ix3 0 0 r)) g * Ideal.div (s (ix2 g v)) (max (k (ix2 0 g)) 1) + Ideal.ofBits .f32 0x3727C5AC#32 := by
  pointwise [k1_pay3]
  simp only [sitofp_eq]

/-- The output block, column `a · 128 + v` of row `r`: the input there times the channel's weight over the divisor. -/
theorem out_apply (x0 : Vec Ideal S1000x384 .f32) (x1 : Vec Ideal S1x1x1000 .i32) (x2 : Vec Ideal S256x128 .f32)
    (x3 : Vec Ideal S1x256 .f32) (x4 : Vec Ideal S1x128 .f32) (y : S1000x384.Idx) (v : Fin 128)
    (h1 : (y 1).val % 128 = v.val) :
    out1_5 (F := Ideal) x0 x1 x2 x3 x4 y = Ideal.div (x0 y * x4 (ix2 0 v)) (k1_pay3 x1 x3 x2 (ix2 (y 0) v)) := by
  unfold out1_5
  frame_out
  canon_tiles x h
  all_goals
    idx_vars x
    idx_vars y
    pointwise [k1_pay1, k1_pay7, k1_pay8, k1_pay6, k1_pay5, k1_pay2, k1_pay4] at *
    obtain rfl : y0 = x0 := Fin.ext h0
    obtain rfl : v = x1 := Fin.ext (by omega)
    rw [show y1 = ⟨_, lt_of_eq_of_lt h1.symm y1.isLt⟩ from Fin.ext h1]

end Cert.KernelIdeal.Block
end
-- ==== Proof.Seg.lean ====
/-
  The first kernel's two result arrays: the per-group sums of row lengths and the per-group row counts, as sums over
  the 50 blocks of 1000 rows.
-/
module

public import proofs.«01_k».proof.Proof.Block

@[expose] public section

set_option maxRecDepth 16384

noncomputable section

namespace Cert.KernelIdeal.Seg

open Cert.KernelIdeal Cert.KernelIdeal.Gen Cert.KernelIdeal.Block
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The last point of the grid. -/
abbrev last : Fin cfg0.N := ⟨49, by decide⟩

/-- After the last point the first output's buffer holds, at (group, channel), the sum over every block's contribution. -/
theorem outs_sum (c : Dev nD) (g : Fin 256) (v : Fin 128) :
    (outsAt0 V c last.val last.isLt).1 (ix2 g v)
      = ∑ t : Fin cfg0.N, ∑ r : Fin 1000, hit (iblk0 V c 1 t (ix3 0 0 r)) g * len (iblk0 V c 0 t) r v := by
  have := Pipeline.eq_sum_fin_of_reset_step_apply_last (ι := Fin 256 × Fin 128)
    (fun n h i => (outsAt0 V c n h).1 (ix2 i.1 i.2)) 50 (fun _ => 0)
    (fun t i => ∑ r : Fin 1000, hit (iblk0 V c 1 t (ix3 0 0 r)) i.1 * len (iblk0 V c 0 t) r i.2)
    (fun t h i => by
      rw [outsAt0_A V c t h]; frame_out; rw [pay4_apply]
      pointwise [k0_pay2, k0_pay3])
    (fun t h i => by
      rw [outsAt0_B V c t h]; frame_out; rw [pay4_apply])
    (le_of_eq N_0) last rfl (g, v)
  rw [zero_add] at this
  exact this

/-- After the last point the second output's buffer holds, per group, the number of rows over every block. -/
theorem outs_count (c : Dev nD) (g : Fin 256) :
    (outsAt0 V c last.val last.isLt).2 (ix2 0 g)
      = ∑ t : Fin cfg0.N, ∑ r : Fin 1000, hit (iblk0 V c 1 t (ix3 0 0 r)) g := by
  have := Pipeline.eq_sum_fin_of_reset_step_apply_last (ι := Fin 256)
    (fun n h i => (outsAt0 V c n h).2 (ix2 0 i)) 50 (fun _ => 0)
    (fun t i => ∑ r : Fin 1000, hit (iblk0 V c 1 t (ix3 0 0 r)) i)
    (fun t h i => by
      rw [outsAt0_A V c t h]; frame_out; rw [pay5_apply]
      pointwise [k0_pay2, k0_pay3])
    (fun t h i => by
      rw [outsAt0_B V c t h]; frame_out; rw [pay5_apply])
    (le_of_eq N_0) last rfl g
  rw [zero_add] at this
  exact this

/-- Where the two input windows' blocks lie: block `t` at point `t`. -/
theorem idx (t : Fin cfg0.N) : win0_0.index t = ![t.val, 0] ∧ win0_1.index t = ![t.val, 0, 0] :=
  (by decide +kernel : ∀ t : Fin cfg0.N, win0_0.index t = ![t.val, 0] ∧ win0_1.index t = ![t.val, 0, 0]) t

/-- Block `t` of the row matrix is its rows from `1000 t` on. -/
theorem blk_row (c : Dev nD) (t : Fin cfg0.N) (r : Fin 1000) (k : Fin 384) :
    iblk0 V c 0 t (ix2 r k) = V c main_v0 (ix2 ⟨t.val * 1000 + r.val, by have := lt_of_lt_of_eq t.isLt N_0; omega⟩ k) := by
  have h := (idx t).1
  blk_ext [iblk0, h]

/-- Block `t` of the group words is their row `t`. -/
theorem blk_batch (c : Dev nD) (t : Fin cfg0.N) (r : Fin 1000) :
    iblk0 V c 1 t (ix3 0 0 r) = V c main_v1 (ix3 ⟨t.val, lt_of_lt_of_eq t.isLt N_0⟩ 0 r) := by
  have h := (idx t).2
  blk_ext [iblk0, h]

/-- The first result array, at (group, channel): the lengths of the group's rows, summed. -/
theorem seg_arr (c : Dev nD) (g : Fin 256) (v : Fin 128) :
    (dat0 V c).arrAt 2 cfg0.N (ix2 g v) = ∑ t : Fin 50, ∑ r : Fin 1000,
      hit (V c main_v1 (ix3 t 0 r)) g * len (n := 50000) (V c main_v0) ⟨t.val * 1000 + r.val, by omega⟩ v := by
  refine ((dat0 V c).arrAt_emb_eq_after_last 2 last (by decide +kernel) (ix2 g v)).trans ?_
  blk_simp
  rw [after0_2]
  refine (outs_sum V c g v).trans ?_
  refine Finset.sum_congr rfl fun t _ => Finset.sum_congr rfl fun r _ => ?_
  simp only [len, blk_row, blk_batch]
  rfl

/-- The second result array, per group: the number of the group's rows. -/
theorem cnt_arr (c : Dev nD) (g : Fin 256) :
    (dat0 V c).arrAt 3 cfg0.N (ix2 0 g) = ∑ t : Fin 50, ∑ r : Fin 1000, hit (V c main_v1 (ix3 t 0 r)) g := by
  refine ((dat0 V c).arrAt_emb_eq_after_last 3 last (by decide +kernel) (ix2 0 g)).trans ?_
  blk_simp
  rw [after0_3]
  refine (outs_count V c g).trans ?_
  refine Finset.sum_congr rfl fun t _ => Finset.sum_congr rfl fun r _ => ?_
  simp only [blk_batch]
  rfl

end Cert.KernelIdeal.Seg
end
-- ==== Proof.Norm.lean ====
/-
  The second kernel's result array at an index: the row matrix's entry times its channel's weight, over the mean length
  of the row's group plus the small constant.
-/
module

public import proofs.«01_k».proof.Proof.Block

@[expose] public section

set_option maxRecDepth 16384

noncomputable section

namespace Cert.KernelIdeal.Norm

open Cert.KernelIdeal Cert.KernelIdeal.Gen Cert.KernelIdeal.Block
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block lies at point `t`: the row matrix, the group words and the output advance with `t`; the
    sums, the counts and the weights are read whole. -/
theorem idx (t : Fin cfg1.N) : win1_0.index t = ![t.val, 0] ∧ win1_1.index t = ![t.val, 0, 0] ∧ win1_2.index t = ![0, 0]
    ∧ win1_3.index t = ![0, 0] ∧ win1_4.index t = ![0, 0] ∧ win1_5.index t = ![t.val, 0] :=
  (by decide +kernel : ∀ t : Fin cfg1.N, win1_0.index t = ![t.val, 0] ∧ win1_1.index t = ![t.val, 0, 0]
    ∧ win1_2.index t = ![0, 0] ∧ win1_3.index t = ![0, 0] ∧ win1_4.index t = ![0, 0] ∧ win1_5.index t = ![t.val, 0]) t

/-- The divisor of row `n` in channel `v`, from the arrays of group words, sums and counts. -/
def den (B : S50x1x1000.Idx → BitVec 32) (s : S256x128.Idx → EReal) (k : S1x256.Idx → EReal) (n : Fin 50000) (v : Fin 128) : EReal :=
  ∑ g : Fin 256, hit (B (ix3 ⟨n.val / 1000, by omega⟩ 0 ⟨n.val % 1000, by omega⟩)) g * Ideal.div (s (ix2 g v)) (max (k (ix2 0 g)) 1)
    + Ideal.ofBits .f32 0x3727C5AC#32

/-- The result at row `n`, column `k`, from the row matrix, the weights, the group words, the sums and the counts. -/
def quot (x : S50000x384.Idx → EReal) (w : S1x128.Idx → EReal) (B : S50x1x1000.Idx → BitVec 32) (s : S256x128.Idx → EReal)
    (q : S1x256.Idx → EReal) (n : Fin 50000) (k : Fin 384) : EReal :=
  Ideal.div (x (ix2 n k) * w (ix2 0 ⟨k.val % 128, by omega⟩)) (den B s q n ⟨k.val % 128, by omega⟩)

section Blocks

variable (c : Dev nD) (t : Fin cfg1.N)

/-- Block `t` of the row matrix is its rows from `1000 t` on. -/
theorem blk_row (r : Fin 1000) (k : Fin 384) :
    iblk1 V c 0 t (ix2 r k) = V c main_v0 (ix2 ⟨t.val * 1000 + r.val, by have := lt_of_lt_of_eq t.isLt N_1; omega⟩ k) := by
  have h := (idx t).1
  blk_ext [iblk1, h]

/-- Block `t` of the group words is their row `t`. -/
theorem blk_batch (r : Fin 1000) :
    iblk1 V c 1 t (ix3 0 0 r) = V c main_v1 (ix3 ⟨t.val, lt_of_lt_of_eq t.isLt N_1⟩ 0 r) := by
  have h := (idx t).2.1
  blk_ext [iblk1, h]

/-- The sums are read whole. -/
theorem blk_seg (g : Fin 256) (v : Fin 128) : iblk1 V c 2 t (ix2 g v) = V c main_v3_0 (ix2 g v) := by
  have h := (idx t).2.2.1
  blk_ext [iblk1, h]

/-- The counts are read whole. -/
theorem blk_cnt (g : Fin 256) : iblk1 V c 3 t (ix2 0 g) = V c main_v3_1 (ix2 0 g) := by
  have h := (idx t).2.2.2.1
  blk_ext [iblk1, h]

/-- The weights are read whole. -/
theorem blk_weight (v : Fin 128) : iblk1 V c 4 t (ix2 0 v) = V c main_v2 (ix2 0 v) := by
  have h := (idx t).2.2.2.2.1
  blk_ext [iblk1, h]

/-- What point `t` leaves in the output's buffer is the result's rows from `1000 t` on. -/
theorem out_blk (r : Fin 1000) (k : Fin 384) :
    out1_5 (F := Ideal) (iblk1 V c 0 t) (iblk1 V c 1 t) (iblk1 V c 2 t) (iblk1 V c 3 t) (iblk1 V c 4 t) (ix2 r k)
      = quot (V c main_v0) (V c main_v2) (V c main_v1) (V c main_v3_0) (V c main_v3_1)
          ⟨t.val * 1000 + r.val, by have := lt_of_lt_of_eq t.isLt N_1; omega⟩ k := by
  have ht := lt_of_lt_of_eq t.isLt N_1
  rw [out_apply _ _ _ _ _ (ix2 r k) ⟨k.val % 128, by omega⟩ rfl]
  have hd : k1_pay3 (F := Ideal) (iblk1 V c 1 t) (iblk1 V c 3 t) (iblk1 V c 2 t) (ix2 r ⟨k.val % 128, by omega⟩)
      = den (V c main_v1) (V c main_v3_0) (V c main_v3_1) ⟨t.val * 1000 + r.val, by omega⟩ ⟨k.val % 128, by omega⟩ := by
    rw [den_apply]
    unfold den
    refine congrArg (· + _) (Finset.sum_congr rfl fun g _ => ?_)
    rw [blk_batch, blk_seg, blk_cnt]
    have e1 : (⟨(t.val * 1000 + r.val) / 1000, by omega⟩ : Fin 50) = ⟨t.val, ht⟩ := Fin.ext (by dsimp only; omega)
    have e2 : (⟨(t.val * 1000 + r.val) % 1000, by omega⟩ : Fin 1000) = r := Fin.ext (by dsimp only; omega)
    rw [e1, e2]
  exact congrArg₂ Ideal.div (congrArg₂ (· * ·) (blk_row V c t r k) (blk_weight V c t _)) hd

end Blocks

/-- The result array, row by row and column by column. -/
theorem arr (c : Dev nD) (n : Fin 50000) (k : Fin 384) :
    (dat1 V c).arrAt 5 cfg1.N (ix2 n k)
      = quot (V c main_v0) (V c main_v2) (V c main_v1) (V c main_v3_0) (V c main_v3_1) n k := by
  refine congrFun ((dat1 V c).arrAt_eq_of_covers 5 (fun j : S50000x384.Idx =>
      quot (V c main_v0) (V c main_v2) (V c main_v1) (V c main_v3_0) (V c main_v3_1) (j 0) (j 1)) (by decide +kernel) fun t hf y => ?_) (ix2 n k)
  have h5 := (idx t).2.2.2.2.2
  obtain ⟨r, k, rfl⟩ : ∃ (r : Fin 1000) (k : Fin 384), y = ix2 r k := ⟨y 0, y 1, eq_ix2 y⟩
  blk_simp
  rw [after1_5]
  refine (out_blk V c t r k).trans ?_
  have e : (win1_5.blk t).view.emb (ix2 r k) = ix2 ⟨t.val * 1000 + r.val, by have := lt_of_lt_of_eq t.isLt N_1; omega⟩ k := by
    blk_ext [h5]
  rw [e]
  rfl

end Cert.KernelIdeal.Norm
end
-- ==== Proof.Model.lean ====
/-
  The problem's mathematics over the extended reals: each row's vector is divided by the mean length of the vectors of
  its group, channel by channel, and scaled by the channel's weight.
-/
module

public import proofs.«01_k».proof.Proof.Block

@[expose] public section

set_option maxRecDepth 16384

noncomputable section

namespace Cert.Model

open Cert.KernelIdeal.Block (hit)
open Idealize.ShloMosaic

variable (x : (⟨3, ![50000, 3, 128]⟩ : Shape).Idx → EReal) (w : (⟨3, ![1, 1, 128]⟩ : Shape).Idx → EReal)
  (b : (⟨1, ![50000]⟩ : Shape).Idx → BitVec 32)

/-- The length of row `n`'s three-component vector in channel `v`. -/
def norm (n : Fin 50000) (v : Fin 128) : EReal := Ideal.sqrt (∑ a : Fin 3, x (ix3 n a v) * x (ix3 n a v))

/-- The lengths of group `g`'s rows in channel `v`, summed. -/
def total (g : ℕ) (v : Fin 128) : EReal := ∑ n : Fin 50000, hit (b (ix1 n)) g * norm x n v

/-- The number of group `g`'s rows. -/
def count (g : ℕ) : EReal := ∑ n : Fin 50000, hit (b (ix1 n)) g

/-- The mean length of group `g` in channel `v`; an empty group counts one row. -/
def mean (g : ℕ) (v : Fin 128) : EReal := Ideal.div (total x b g v) (max (count b g) 1)

/-- The result at row `n`, component `a`, channel `v`. -/
def result (n : Fin 50000) (a : Fin 3) (v : Fin 128) : EReal :=
  Ideal.div (x (ix3 n a v) * w (ix3 0 0 v)) (mean x b (b (ix1 n)).toNat v + Ideal.ofBits .f32 0x3727C5AC#32)

/-- Summing over the groups, weighted by membership, picks out the word's own group when the word is in range. -/
theorem sum_hit (u : BitVec 32) (hu : u.toNat < 256) (f : ℕ → EReal) :
    ∑ g : Fin 256, hit u g * f g = f u.toNat := by
  rw [Finset.sum_eq_single (⟨u.toNat, hu⟩ : Fin 256)]
  · simp [hit]
  · intro g _ hg
    have hne : u ≠ BitVec.ofNat 32 g.val := fun h => hg (Fin.ext (by
      show g.val = u.toNat
      have := congrArg BitVec.toNat h
      simp only [BitVec.toNat_ofNat] at this
      omega))
    simp [hit, hne]
  · exact fun h => absurd (Finset.mem_univ _) h

end Cert.Model
end
-- ==== Proof.Value.lean ====
/-
  The idealized program's result, element by element, is the problem's mathematics, where every group word is in range.
-/
module

public import proofs.«01_k».proof.Proof.Run
public import proofs.«01_k».proof.Proof.Seg
public import proofs.«01_k».proof.Proof.Norm
public import proofs.«01_k».proof.Proof.Model
public import Idealize.ShloMosaic.Lib.StableHlo.ReadAt

@[expose] public section

set_option maxRecDepth 16384

noncomputable section

namespace Cert.KernelIdeal.Whole

open Cert.KernelIdeal Cert.KernelIdeal.Gen Cert.KernelIdeal.Block
open Idealize.ShloMosaic Idealize.ShloMosaic.TcCoe Idealize.SL.Sem

variable (m : (ℓ : Loc nD τ sig) → Buf (Elt Ideal) ℓ) (ρ : Dev nD → PrngReg) (c : Dev nD)

/-- The vectors, as launched. -/
abbrev X : S50000x3x128.Idx → EReal := m ((c : Thread nD τ).loc main_arg0)
/-- The weights, as launched. -/
abbrev Wt : S1x1x128.Idx → EReal := m ((c : Thread nD τ).loc main_arg1)
/-- The group words, as launched. -/
abbrev B : S50000.Idx → BitVec 32 := m ((c : Thread nD τ).loc main_arg2)

/-- The row matrix: a row's three components side by side. -/
theorem V1_row (n : Fin 50000) (k : Fin 384) (a : Fin 3) (v : Fin 128) (hk : k.val = a.val * 128 + v.val) :
    V1 m ρ c main_v0 (ix2 n k) = X m c (ix3 n a v) := by
  have h : V1 m ρ c main_v0 (ix2 n k) = X m c (ix3 n ⟨k.val / 128, by omega⟩ ⟨k.val % 128, by omega⟩) := by
    show StableHlo.after hostOps0 _ _ _ = _
    after_reads_at
  rw [h, show (⟨k.val / 128, by omega⟩ : Fin 3) = a from Fin.ext (by dsimp only; omega),
    show (⟨k.val % 128, by omega⟩ : Fin 128) = v from Fin.ext (by dsimp only; omega)]

/-- The group words, cut into 50 rows of 1000. -/
theorem V1_batch (t : Fin 50) (r : Fin 1000) :
    V1 m ρ c main_v1 (ix3 t 0 r) = B m c (ix1 ⟨t.val * 1000 + r.val, by omega⟩) := by
  show StableHlo.after hostOps0 _ _ _ = _
  after_reads_at

/-- The weights as one row. -/
theorem V1_weight (v : Fin 128) : V1 m ρ c main_v2 (ix2 0 v) = Wt m c (ix3 0 0 v) := by
  show StableHlo.after hostOps0 _ _ _ = _
  after_reads_at

/-- The first kernel leaves the row matrix as it was. -/
theorem V2_row : V2 m ρ c main_v0 = V1 m ρ c main_v0 := W2_of m ρ c main_v0 (by decide)
/-- The first kernel leaves the group words as they were. -/
theorem V2_batch : V2 m ρ c main_v1 = V1 m ρ c main_v1 := W2_of m ρ c main_v1 (by decide)
/-- The first kernel leaves the weights as they were. -/
theorem V2_weight : V2 m ρ c main_v2 = V1 m ρ c main_v2 := W2_of m ρ c main_v2 (by decide)

/-- The length read off the row matrix is the vector's length. -/
theorem len_row (n : Fin 50000) (v : Fin 128) : len (n := 50000) (V1 m ρ c main_v0) n v = Model.norm (X m c) n v := by
  unfold len Model.norm
  rw [Fin.sum_univ_three]
  have e (a : Fin 3) (k : Fin 384) (hk : k.val = a.val * 128 + v.val) : V1 m ρ c main_v0 (ix2 n k) = X m c (ix3 n a v) :=
    V1_row m ρ c n k a v hk
  exact congrArg Ideal.sqrt (congrArg₂ (· + ·) (congrArg₂ (· + ·)
    (congrArg₂ (· * ·) (e 0 _ (by simp)) (e 0 _ (by simp))) (congrArg₂ (· * ·) (e 1 _ (by simp)) (e 1 _ (by simp))))
    (congrArg₂ (· * ·) (e 2 _ (by simp)) (e 2 _ (by simp))))

/-- The first kernel's sums are the groups' sums of lengths. -/
theorem V2_seg (g : Fin 256) (v : Fin 128) : V2 m ρ c main_v3_0 (ix2 g v) = Model.total (X m c) (B m c) g v := by
  refine (congrFun (W2_arr m ρ c 2) _).trans ((Seg.seg_arr (V1 m ρ) c g v).trans ?_)
  refine Fin.sum_mul_add_congr fun t r hl => ?_
  rw [V1_batch, len_row]

/-- The first kernel's counts are the groups' numbers of rows. -/
theorem V2_cnt (g : Fin 256) : V2 m ρ c main_v3_1 (ix2 0 g) = Model.count (B m c) g := by
  refine (congrFun (W2_arr m ρ c 3) _).trans ((Seg.cnt_arr (V1 m ρ) c g).trans ?_)
  refine Fin.sum_mul_add_congr fun t r hl => ?_
  rw [V1_batch]

/-- The result array's element is the second kernel's, its columns cut back into component and channel. -/
theorem W4_read (n : Fin 50000) (a : Fin 3) (v : Fin 128) :
    W4 m ρ c (Proc.devRef .tc main_v5) (ix3 n a v) = W3 m ρ c (Proc.devRef .tc main_v4) (ix2 n ⟨a.val * 128 + v.val, by omega⟩) := by
  show StableHlo.after hostOps2 _ _ _ = _
  generalize W3 m ρ c = U
  after_reads_at

/-- Where every group word is below 256, the program's result is the problem's mathematics. -/
theorem value (hB : ∀ n, (B m c (ix1 n)).toNat < 256) (n : Fin 50000) (a : Fin 3) (v : Fin 128) :
    W4 m ρ c (Proc.devRef .tc main_v5) (ix3 n a v) = Model.result (X m c) (Wt m c) (B m c) n a v := by
  rw [W4_read]
  refine (congrFun (W3_arr m ρ c 5) _).trans ((Norm.arr (V2 m ρ) c n ⟨a.val * 128 + v.val, by omega⟩).trans ?_)
  unfold Norm.quot Norm.den Model.result
  have ev : (⟨(a.val * 128 + v.val) % 128, by omega⟩ : Fin 128) = v := Fin.ext (by dsimp only; omega)
  have en : (⟨n.val / 1000 * 1000 + n.val % 1000, by omega⟩ : Fin 50000) = n := Fin.ext (by dsimp only; omega)
  simp only [ev]
  rw [V2_row, V2_weight, V2_batch, ← Model.sum_hit _ (hB n) fun g => Model.mean (X m c) (B m c) g v]
  have eb : V1 m ρ c main_v1 (ix3 ⟨n.val / 1000, by omega⟩ 0 ⟨n.val % 1000, by omega⟩) = B m c (ix1 n) :=
    (V1_batch m ρ c _ _).trans (congrArg (fun k => B m c (ix1 k)) en)
  refine congrArg₂ Ideal.div (congrArg₂ (· * ·) (V1_row m ρ c n _ a v rfl) (V1_weight m ρ c v))
    (congrArg (· + _) (Finset.sum_congr rfl fun g _ => congrArg₂ (· * ·) (congrArg (hit · g) eb) ?_))
  exact congrArg₂ Ideal.div (V2_seg m ρ c g v) (congrArg (max · 1) (V2_cnt m ρ c g))

end Cert.KernelIdeal.Whole
end
-- ==== Proof.RefOps.lean ====
/-
  The reference's two scatters and its gather, read at an index: where an update lands, which row is read.
-/
module

public import proofs.«01_k».proof.Proof.Gen.ReferenceIdeal.Read
public import proofs.«01_k».proof.Proof.Block
public import Idealize.ShloMosaic.Lib.Routing.OpsPair
public import Idealize.ShloMosaic.Lib.Pointwise

@[expose] public section

set_option maxRecDepth 16384

noncomputable section

namespace Cert.ReferenceIdeal.Place

open Cert.ReferenceIdeal Cert.ReferenceIdeal.Gen
open Idealize.ShloMosaic
open Cert.KernelIdeal.Block (hit)

/-- The sums' scatter. -/
abbrev dSum := scatter_S256x1x128_S50000x1_S50000x1x128_12_0_0_1
/-- The counts' scatter. -/
abbrev dCnt := scatter_S256_S50000x1_S50000_n_0_0_1
/-- The lookup of a row's mean. -/
abbrev dGet := gather_S256x1x128_S50000x1_S50000x1x128_12_0_n_n_0_1_11128

variable (idx : IVec S50000x1 32)

/-- Update `(n, u, v)` of the sums lands at row `g`, channel `v'` when its word is `g` and the channels agree. -/
theorem sum_lands (n : Fin 50000) (u : Fin 1) (v : Fin 128) (g : Fin 256) (v' : Fin 128) :
    dSum.resultIdx? (ix3 n u v) idx = some (ix3 g 0 v') ↔ (idx (ix2 n 0)).toInt = (g.val : Int) ∧ v = v' := by
  rw [Routing.resultIdx?_eq_some]
  have hsi (h) : dSum.siIdx (ix3 n u v) ⟨dSum.scatterDimsToOperandDims.idxOf 0, h⟩ = ix2 n 0 := by
    funext b
    match b with
    | ⟨0, _⟩ => rfl
    | ⟨1, _⟩ => rfl
  have s0 : dSum.start (ix3 n u v) idx 0 = (idx (ix2 n 0)).toInt := by
    unfold ScatterDims.start
    rw [dif_pos (show (0 : Fin 3) ∈ dSum.scatterDimsToOperandDims from List.mem_singleton.mpr rfl), hsi]
  have s1 : dSum.start (ix3 n u v) idx 1 = 0 := rfl
  have s2 : dSum.start (ix3 n u v) idx 2 = 0 := rfl
  have w0 : dSum.window (ix3 n u v) 0 = 0 := rfl
  have w1 : dSum.window (ix3 n u v) 1 = u.val := rfl
  have w2 : dSum.window (ix3 n u v) 2 = v.val := rfl
  constructor
  · intro h
    have h0 : (idx (ix2 n 0)).toInt + ((0 : ℕ) : Int) = (g.val : Int) := by have := h 0; rwa [s0, w0] at this
    have h2 : (0 : Int) + (v.val : Int) = (v'.val : Int) := by have := h 2; rwa [s2, w2] at this
    exact ⟨by omega, Fin.ext (by omega)⟩
  · rintro ⟨h0, rfl⟩ a
    match a with
    | ⟨0, _⟩ =>
      show dSum.start (ix3 n u v) idx 0 + (dSum.window (ix3 n u v) 0 : Int) = (g.val : Int)
      rw [s0, w0]; omega
    | ⟨1, _⟩ =>
      show dSum.start (ix3 n u v) idx 1 + (dSum.window (ix3 n u v) 1 : Int) = 0
      rw [s1, w1]; omega
    | ⟨2, _⟩ =>
      show dSum.start (ix3 n u v) idx 2 + (dSum.window (ix3 n u v) 2 : Int) = (v.val : Int)
      rw [s2, w2]; omega

/-- Update `n` of the counts lands at `g` when its word is `g`. -/
theorem cnt_lands (n : Fin 50000) (g : Fin 256) :
    dCnt.resultIdx? (ix1 n) idx = some (ix1 g) ↔ (idx (ix2 n 0)).toInt = (g.val : Int) := by
  rw [Routing.resultIdx?_eq_some]
  have hsi (h) : dCnt.siIdx (ix1 n) ⟨dCnt.scatterDimsToOperandDims.idxOf 0, h⟩ = ix2 n 0 := by
    funext b
    match b with
    | ⟨0, _⟩ => rfl
    | ⟨1, _⟩ => rfl
  have s0 : dCnt.start (ix1 n) idx 0 = (idx (ix2 n 0)).toInt := by
    unfold ScatterDims.start
    rw [dif_pos (show (0 : Fin 1) ∈ dCnt.scatterDimsToOperandDims from List.mem_singleton.mpr rfl), hsi]
  have w0 : dCnt.window (ix1 n) 0 = 0 := rfl
  constructor
  · intro h
    have h0 : (idx (ix2 n 0)).toInt + ((0 : ℕ) : Int) = (g.val : Int) := by have := h 0; rwa [s0, w0] at this
    omega
  · intro h a
    match a with
    | ⟨0, _⟩ =>
      show dCnt.start (ix1 n) idx 0 + (dCnt.window (ix1 n) 0 : Int) = (g.val : Int)
      rw [s0, w0]; omega

/-- A word is `g`, read signed, exactly when it is the word of `g`. -/
theorem toInt_eq_iff (w : BitVec 32) (g : Fin 256) : w.toInt = (g.val : Int) ↔ w = BitVec.ofNat 32 g.val := by
  have hg := g.isLt
  rw [← StableHlo.Predicate.toInt_ofNat_small g.val (by omega), BitVec.toInt_inj]

/-- The scattered sums: at row `g`, channel `v`, the updates of the rows whose word is `g`. -/
theorem sum_apply (upd : S50000x1x128.Idx → EReal) (x : S256x1x128.Idx → EReal) (g : Fin 256) (v : Fin 128) :
    Ideal.hostScatterAdd dSum x idx upd (ix3 g 0 v)
      = x (ix3 g 0 v) + ∑ n : Fin 50000, hit (idx (ix2 n 0)) g.val * upd (ix3 n 0 v) := by
  unfold Ideal.hostScatterAdd
  refine congrArg (x (ix3 g 0 v) + ·) ?_
  rw [Finset.sum_filter, sum_idx3]
  refine Finset.sum_congr rfl fun n _ => ?_
  rw [Fin.sum_univ_one]
  simp only [sum_lands, toInt_eq_iff]
  by_cases h : idx (ix2 n 0) = BitVec.ofNat 32 g.val
  · simp [hit, h]
  · simp [hit, h]

/-- The scattered counts: at `g`, the updates of the rows whose word is `g`. -/
theorem cnt_apply (upd : S50000.Idx → EReal) (x : S256.Idx → EReal) (g : Fin 256) :
    Ideal.hostScatterAdd dCnt x idx upd (ix1 g) = x (ix1 g) + ∑ n : Fin 50000, hit (idx (ix2 n 0)) g.val * upd (ix1 n) := by
  unfold Ideal.hostScatterAdd
  refine congrArg (x (ix1 g) + ·) ?_
  rw [Finset.sum_filter, sum_idx1]
  refine Finset.sum_congr rfl fun n _ => ?_
  simp only [cnt_lands, toInt_eq_iff]
  by_cases h : idx (ix2 n 0) = BitVec.ofNat 32 g.val
  · simp [hit, h]
  · simp [hit, h]

/-- The lookup: where row `n`'s word is below 256, it reads the table at that row. -/
theorem get_apply (x : S256x1x128.Idx → EReal) (n : Fin 50000) (v : Fin 128) (h : (idx (ix2 n 0)).toNat < 256) :
    Host.gather dGet x idx (ix3 n 0 v) = x (ix3 ⟨(idx (ix2 n 0)).toNat, h⟩ 0 v) := by
  unfold Host.gather
  refine congrArg x (funext fun a => Fin.ext ?_)
  have hsi (h) : dGet.siIdx (ix3 n 0 v) ⟨dGet.startIndexMap.idxOf 0, h⟩ = ix2 n 0 := by
    funext b
    match b with
    | ⟨0, _⟩ => rfl
    | ⟨1, _⟩ => rfl
  have hi : (idx (ix2 n 0)).toInt = ((idx (ix2 n 0)).toNat : Int) := BitVec.toInt_eq_toNat_of_lt (by omega)
  have s0 : dGet.start (ix3 n 0 v) idx 0 = (idx (ix2 n 0)).toNat := by
    unfold GatherDims.start
    rw [dif_pos (show (0 : Fin 3) ∈ dGet.startIndexMap from List.mem_singleton.mpr rfl), hsi, hi]
    show min ((idx (ix2 n 0)).toNat : Int).toNat 255 = _
    omega
  match a with
  | ⟨0, _⟩ =>
    show dGet.start (ix3 n 0 v) idx 0 + 0 + 0 = (idx (ix2 n 0)).toNat
    exact s0
  | ⟨1, _⟩ => rfl
  | ⟨2, _⟩ =>
    show 0 + 0 + v.val = v.val
    omega

end Cert.ReferenceIdeal.Place
end
-- ==== Proof.Ref.lean ====
/-
  The reference's result, element by element, is the problem's mathematics, where every group word is in range.
-/
module

public import proofs.«01_k».proof.Proof.RefOps
public import proofs.«01_k».proof.Proof.Model

@[expose] public section

set_option maxRecDepth 16384

noncomputable section

namespace Cert.ReferenceIdeal.Closed

open Cert.ReferenceIdeal Cert.ReferenceIdeal.Gen Cert.ReferenceIdeal.Read Cert.ReferenceIdeal.Place
open Idealize.ShloMosaic
open Cert.KernelIdeal.Block (hit)

variable (x : S50000x3x128.Idx → EReal) (w : S1x1x128.Idx → EReal) (b : S50000.Idx → BitVec 32)

/-- The squares summed over the components. -/
theorem sq_apply (n : Fin 50000) (v : Fin 128) :
    val_main_v1 (F := Ideal) x (ix2 n v) = ∑ a : Fin 3, x (ix3 n a v) * x (ix3 n a v) := by
  rw [val_main_v1_apply]
  refine (congrArg (· + _) (show val_main_cst (F := Ideal) _ = (0 : EReal) from Ideal.ofBits_zero_f32)).trans ((zero_add _).trans ?_)
  refine Finset.sum_congr rfl fun a _ => ?_
  have e : idx_main_v1 (ix2 n v) a = ix3 n a v := eq_ix3 _
  rw [e]
  rfl

/-- The lengths. -/
theorem norm_apply (n : Fin 50000) (v : Fin 128) : val_main_v3 (F := Ideal) x (ix3 n 0 v) = Model.norm x n v := by
  rw [val_main_v3_apply, val_main_v2_apply]
  have e : idx_main_v2 (ix3 n 0 v) = ix2 n v := eq_ix2 _
  rw [e, sq_apply]
  rfl

/-- The group words as a column. -/
theorem word_apply (n : Fin 50000) : val_main_v5 (F := Ideal) b (ix2 n 0) = b (ix1 n) :=
  (val_main_v5_apply b _).trans (congrArg b (eq_ix1 _))

/-- The same column, as the counts' scatter reads it. -/
theorem word_apply' (n : Fin 50000) : val_main_v9 (F := Ideal) b (ix2 n 0) = b (ix1 n) :=
  (val_main_v9_apply b _).trans (congrArg b (eq_ix1 _))

/-- The groups' sums of lengths. -/
theorem total_apply (g : Fin 256) (v : Fin 128) :
    val_main_v6 (F := Ideal) x b (ix3 g 0 v) = Model.total x b g.val v := by
  refine (sum_apply _ _ _ g v).trans ?_
  rw [show val_main_v4 (F := Ideal) (ix3 g 0 v) = (0 : EReal) from (val_main_v4_apply _).trans Ideal.ofBits_zero_f32, zero_add]
  refine Finset.sum_congr rfl fun n _ => ?_
  rw [word_apply, norm_apply]

/-- The groups' numbers of rows. -/
theorem count_apply (g : Fin 256) : val_main_v10 (F := Ideal) b (ix1 g) = Model.count b g.val := by
  refine (cnt_apply _ _ _ g).trans ?_
  rw [show val_main_v8 (F := Ideal) (ix1 g) = (0 : EReal) from (val_main_v8_apply _).trans Ideal.ofBits_zero_f32, zero_add]
  refine Finset.sum_congr rfl fun n _ => ?_
  rw [word_apply', show val_main_v7 (F := Ideal) (ix1 n) = (1 : EReal) from (val_main_v7_apply _).trans Ideal.ofBits_one_f32, mul_one]

/-- The groups' means. -/
theorem mean_apply (g : Fin 256) (v : Fin 128) : val_main_v14 (F := Ideal) x b (ix3 g 0 v) = Model.mean x b g.val v := by
  rw [val_main_v14_apply, total_apply, val_main_v13_apply, val_main_v12_apply]
  have e : idx_main_v12 (idx_main_v13 (ix3 g 0 v)) = ix1 g := (eq_ix1 _).trans (congrArg ix1 (Fin.ext (by simp)))
  rw [e, val_main_v11_apply, count_apply]
  refine congrArg (Ideal.div _) ?_
  refine (max_comm _ _).trans (congrArg (max _) ?_)
  exact (val_main_call0_v1_apply _).trans Ideal.ofBits_one_f32

/-- A word below 256 is not wrapped. -/
theorem wrap_apply (n : Fin 50000) (h : (b (ix1 n)).toNat < 256) : val_main_v22 (F := Ideal) b (ix2 n 0) = b (ix1 n) := by
  rw [val_main_v22_apply]
  have e : idx_main_v22 (ix2 n 0) = ix1 n := eq_ix1 _
  rw [e, val_main_v21_apply, val_main_v18_apply, val_main_v17_apply]
  exact Routing.wrap_of_lt _ _ (by omega)

/-- The mean a row is divided by. -/
theorem get_mean (n : Fin 50000) (v : Fin 128) (h : (b (ix1 n)).toNat < 256) :
    val_main_v23 (F := Ideal) x b (ix3 n 0 v) = Model.mean x b (b (ix1 n)).toNat v := by
  have e := wrap_apply b n h
  refine (get_apply _ _ n v (by rw [e]; exact h)).trans ((mean_apply x b _ v).trans ?_)
  exact congrArg (fun u : BitVec 32 => Model.mean x b u.toNat v) e

/-- Where every group word is below 256, the reference's result is the problem's mathematics. -/
theorem value (hB : ∀ n, (b (ix1 n)).toNat < 256) (n : Fin 50000) (a : Fin 3) (v : Fin 128) :
    val_main_v27 (F := Ideal) x w b (ix3 n a v) = Model.result x w b n a v := by
  rw [val_main_v27_apply, val_main_v26_apply, val_main_v16_apply, val_main_v15_apply]
  have e : idx_main_v26 (ix3 n a v) = ix3 n 0 v := eq_ix3 _
  have e' : idx_main_v15 (ix3 n a v) = ix3 0 0 v := eq_ix3 _
  rw [e, e', val_main_v25_apply, get_mean x b n v (hB n), val_main_v24_apply]
  exact congrArg (Ideal.div · _) (mul_comm _ _)

end Cert.ReferenceIdeal.Closed
end
-- ==== Proof.Pre.lean ====
/-
  What the precondition says of a group word.
-/
module

public import proofs.«01_k».proof.Proof.Gen.Pre_batch_in_range
public import Idealize.ShloMosaic.Lib.ReduceAll
public import Idealize.ShloMosaic.Lib.Affine
public import Idealize.ShloMosaic.Lib.StableHlo.Predicate
public import Idealize.ShloMosaic.Lib.Pointwise

@[expose] public section

set_option maxRecDepth 16384

noncomputable section

namespace Cert.Pre_batch_in_range

open Idealize.ShloMosaic

/-- A word that is at least 0 and less than 256, read signed, is below 256. -/
theorem lt_of_word (w : BitVec 32) (h0 : IntOp.cmpi .sge w 0#32 = 1#1) (h1 : IntOp.cmpi .slt w 256#32 = 1#1) : w.toNat < 256 := by
  have h0' : (0#32).sle w = true := by simpa [IntOp.cmpi, StableHlo.Predicate.ofBool_eq_one_iff] using h0
  have h1' : w.slt 256#32 = true := by simpa [IntOp.cmpi, StableHlo.Predicate.ofBool_eq_one_iff] using h1
  simp only [BitVec.sle, BitVec.slt, decide_eq_true_eq] at h0' h1'
  have e0 : (0#32).toInt = 0 := by decide
  have e1 : (256#32).toInt = 256 := by decide
  rw [e0] at h0'
  rw [e1] at h1'
  have := BitVec.toInt_eq_toNat_cond w
  have := w.isLt
  split at * <;> omega

/-- Where the precondition holds, every group word is below 256. -/
theorem range {F : FTy → Type} [FloatOps F] (x : FVec F S50000x3x128 .f32) (w : FVec F S1x1x128 .f32) (b : IVec S50000 32)
    (h : fn x w b = fun _ => 1#1) (n : Fin 50000) : (b (ix1 n)).toNat < 256 := by
  have : Subsingleton S_.Idx := ⟨fun i j => funext fun a => a.elim0⟩
  unfold fn at h
  dsimp only at h
  have e := congrFun h (Shape.Idx.first Facts.h_S_)
  have hall := Host.reduce_andi_all _ _ _ _ _ e (ix1 n)
  obtain ⟨h0, h1⟩ := IntOp.andi_eq_one.1 hall
  exact lt_of_word _ h0 h1

end Cert.Pre_batch_in_range
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_batch_in_range
public import proofs.«01_k».proof.Proof.Gen.ReferenceIdeal.Run
public import proofs.«01_k».proof.Proof.Gen.ReferenceIdeal.Read
public import proofs.«01_k».proof.Proof.Value
public import proofs.«01_k».proof.Proof.Ref
public import proofs.«01_k».proof.Proof.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and every counter at zero. -/
theorem ref_frame [hR : Cert.ReferenceIdeal.Facts] (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  θ_run_mono (Cert.ReferenceIdeal.Value.run m g) fun r h =>
    ⟨fun c => (h c).2, sem_eq_zero_of_no_sems (by decide) r.2⟩

/-- Both programs' results are the problem's mathematics. -/
theorem agree : Cert.algebraic_KernelIdeal_ReferenceIdeal_pre_batch_in_range := by
  intro m g m' g' hpre hagree
  have hB (c : Dev Cert.KernelIdeal.nD) (n : Fin 50000) : (Cert.KernelIdeal.Whole.B m c (ix1 n)).toNat < 256 :=
    Cert.Pre_batch_in_range.range _ _ _ (hpre c) n
  refine ⟨fun c => Cert.KernelIdeal.Gen.W4 m g c (Proc.devRef .tc Cert.KernelIdeal.main_v5),
    θ_run_mono (Cert.KernelIdeal.Whole.run m g) fun r h => h.1,
    θ_run_mono (Cert.ReferenceIdeal.Value.run m' g') fun r h c => ⟨(h c).1.trans ?_, (h c).2⟩⟩
  obtain ⟨e0, e1, e2⟩ := hagree c
  refine (Cert.ReferenceIdeal.Read.val_main_v27_eq _ _ _).trans ?_
  rw [e0, e1, e2]
  funext i
  obtain ⟨n, a, v, rfl⟩ : ∃ n a v, i = ix3 n a v := ⟨_, _, _, eq_ix3 i⟩
  exact (Cert.ReferenceIdeal.Closed.value _ _ _ (hB c) n a v).trans (Cert.KernelIdeal.Whole.value m g c (hB c) n a v).symm

/-- Everything the certificate claims. -/
theorem claim : Cert.Claim :=
  ⟨Cert.Kernel.Gen.facts, Cert.KernelIdeal.Gen.facts, Cert.ReferenceIdeal.Gen.facts, Cert.Pre_batch_in_range.Gen.facts,
    fun m g _ => Cert.Kernel.Gen.frame m g, fun m g _ => Cert.KernelIdeal.Gen.frame m g, fun m g _ => Cert.KernelIdeal.Gen.frame m g,
    fun m g _ => ref_frame m g, fun m g _ => ref_frame m g, trivial, agree⟩

end Cert.Proof

end
